-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_same_coords [hPre_same_coords : Cert.Pre_same_coords.Facts] (m : (ℓ : Loc Cert.KernelIdeal.nD Cert.KernelIdeal.τ Cert.KernelIdeal.sig) → Buf (Elt Ideal) ℓ) : Prop :=
  ∀ c : Dev Cert.KernelIdeal.nD,
    (Cert.Pre_same_coords.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_same_coords [hPre_same_coords : Cert.Pre_same_coords.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_same_coords.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_same_coords [hKernelIdeal : Cert.KernelIdeal.Facts] [hPre_same_coords : Cert.Pre_same_coords.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_same_coords m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_same_coords [hReferenceIdeal : Cert.ReferenceIdeal.Facts] [hPre_same_coords : Cert.Pre_same_coords.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_same_coords m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_same_coords [hKernelIdeal : Cert.KernelIdeal.Facts] [hReferenceIdeal : Cert.ReferenceIdeal.Facts] [hPre_same_coords : Cert.Pre_same_coords.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_same_coords m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_same_coords : Cert.Pre_same_coords.Facts),
    quiescent_Kernel (hKernel := hKernel)
    ∧ quiescent_KernelIdeal (hKernelIdeal := hKernelIdeal)
    ∧ quiescent_KernelIdeal_pre_same_coords (hKernelIdeal := hKernelIdeal) (hPre_same_coords := hPre_same_coords)
    ∧ quiescent_ReferenceIdeal (hReferenceIdeal := hReferenceIdeal)
    ∧ quiescent_ReferenceIdeal_pre_same_coords (hReferenceIdeal := hReferenceIdeal) (hPre_same_coords := hPre_same_coords)
    ∧ preserves_Kernel_KernelIdeal
    ∧ algebraic_KernelIdeal_ReferenceIdeal_pre_same_coords (hKernelIdeal := hKernelIdeal) (hReferenceIdeal := hReferenceIdeal) (hPre_same_coords := hPre_same_coords)
-- ==== Pre_same_coords.lean ====
abbrev S16384x3 : Shape := ⟨2, ![16384, 3]⟩
abbrev S512x3 : Shape := ⟨2, ![512, 3]⟩
abbrev S1x3 : Shape := ⟨2, ![1, 3]⟩
abbrev S_ : Shape := ⟨0, ![]⟩

class Facts : Prop where
  slices_S16384x3_S1x3_0_0 : S16384x3.Slices ![0, 0] S1x3
  bcast_S1x3_S16384x3_0_1 : S1x3.BroadcastsInDim S16384x3 (![0, 1] : Fin 2 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S512x3 .f32) : IVec S_ 1 :=
  let main_v0 : FVec F S1x3 .f32 := (extractStridedSlice S1x3 ![0, 0] · slices_S16384x3_S1x3_0_0) main_arg0
  let main_v1 : FVec F S16384x3 .f32 := broadcastInDim S16384x3 ![0, 1] bcast_S1x3_S16384x3_0_1 main_v0
  let main_v2 : IVec S16384x3 1 := cmpf .oeq main_arg0 main_v1
  let main_c : IVec S_ 1 := constantI S_ 1 1#1
  let main_v3 : IVec S_ 1 := (fun x v => Host.reduce IntOp.andi x v reducesTo_S16384x3_S_d0_1 h_S_) main_v2 main_c
  main_v3
-- ==== Kernel.lean ====
abbrev S16384x3 : Shape := ⟨2, ![16384, 3]⟩
abbrev S512x3 : Shape := ⟨2, ![512, 3]⟩
abbrev S1x3 : Shape := ⟨2, ![1, 3]⟩
abbrev S3x16384x512 : Shape := ⟨3, ![3, 16384, 512]⟩
abbrev S3x2048x512 : Shape := ⟨3, ![3, 2048, 512]⟩
abbrev S_ : Shape := ⟨0, ![]⟩
abbrev S512x1 : Shape := ⟨2, ![512, 1]⟩
abbrev S1x1 : Shape := ⟨2, ![1, 1]⟩
abbrev S1x512 : Shape := ⟨2, ![1, 512]⟩
abbrev S512x512 : Shape := ⟨2, ![512, 512]⟩
abbrev S512 : Shape := ⟨1, ![512]⟩
abbrev S3x512 : Shape := ⟨2, ![3, 512]⟩
abbrev S2048x512 : Shape := ⟨2, ![2048, 512]⟩
abbrev S1x2048x512 : Shape := ⟨3, ![1, 2048, 512]⟩
abbrev S16384x512x3 : Shape := ⟨3, ![16384, 512, 3]⟩

abbrev nBuf : Space → Nat
  | .hbm => 5
  | .vmem => 3
  | .smem => 0
  | _ => 0

abbrev bufTy : (tb : Table) → Fin (tcTables nBuf tb) → BufTy
  | .hbm, ⟨0, _⟩ => ⟨S16384x3, .f32⟩
  | .hbm, ⟨1, _⟩ => ⟨S512x3, .f32⟩
  | .hbm, ⟨2, _⟩ => ⟨S1x3, .f32⟩
  | .hbm, ⟨3, _⟩ => ⟨S3x16384x512, .f32⟩
  | .hbm, ⟨4, _⟩ => ⟨S16384x512x3, .f32⟩
  | .local _ .vmem, ⟨0, _⟩ => ⟨S1x3, .f32⟩
  | .local _ .vmem, ⟨1, _⟩ => ⟨S512x3, .f32⟩
  | .local _ .vmem, ⟨2, _⟩ => ⟨S3x2048x512, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x3 : Shape := ⟨2, ![16384, 3]⟩
abbrev S512x3 : Shape := ⟨2, ![512, 3]⟩
abbrev S512x1 : Shape := ⟨2, ![512, 1]⟩
abbrev S512x2 : Shape := ⟨2, ![512, 2]⟩
abbrev S16384x2 : Shape := ⟨2, ![16384, 2]⟩
abbrev S16384x1x2 : Shape := ⟨3, ![16384, 1, 2]⟩
abbrev S1x512x2 : Shape := ⟨3, ![1, 512, 2]⟩
abbrev S16384x512x2 : Shape := ⟨3, ![16384, 512, 2]⟩
abbrev S_ : Shape := ⟨0, ![]⟩
abbrev S16384x512 : Shape := ⟨2, ![16384, 512]⟩
abbrev S16384x512x1 : Shape := ⟨3, ![16384, 512, 1]⟩
abbrev S512 : Shape := ⟨1, ![512]⟩
abbrev S16384x1 : Shape := ⟨2, ![16384, 1]⟩
abbrev S16384 : Shape := ⟨1, ![16384]⟩
abbrev S1x512 : Shape := ⟨2, ![1, 512]⟩
abbrev S16384x512x3 : Shape := ⟨3, ![16384, 512, 3]⟩
abbrev S1 : Shape := ⟨1, ![1]⟩
abbrev S1x1x1 : Shape := ⟨3, ![1, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S512x3, .f32⟩
  | .hbm, ⟨2, _⟩ => ⟨S512x1, .f32⟩
  | .hbm, ⟨3, _⟩ => ⟨S512x2, .f32⟩
  | .hbm, ⟨4, _⟩ => ⟨S16384x2, .f32⟩
  | .hbm, ⟨5, _⟩ => ⟨S16384x1x2, .f32⟩
  | .hbm, ⟨6, _⟩ => ⟨S1x512x2, .f32⟩
  | .hbm, ⟨7, _⟩ => ⟨S16384x512x2, .f32⟩
  | .hbm, ⟨8, _⟩ => ⟨S16384x512x2, .f32⟩
  | .hbm, ⟨9, _⟩ => ⟨S16384x512x2, .f32⟩
  | .hbm, ⟨10, _⟩ => ⟨S16384x512x2, .f32⟩
  | .hbm, ⟨11, _⟩ => ⟨S_, .f32⟩
  | .hbm, ⟨12, _⟩ => ⟨S16384x512, .f32⟩
  | .hbm, ⟨13, _⟩ => ⟨S16384x512x1, .f32⟩
  | .hbm, ⟨14, _⟩ => ⟨S16384x512x1, .f32⟩
  | .hbm, ⟨15, _⟩ => ⟨S512x1, .f32⟩
  | .hbm, ⟨16, _⟩ => ⟨S512, .f32⟩
  | .hbm, ⟨17, _⟩ => ⟨S16384x1, .f32⟩
  | .hbm, ⟨18, _⟩ => ⟨S16384, .f32⟩
  | .hbm, ⟨19, _⟩ => ⟨S1x512, .f32⟩
  | .hbm, ⟨20, _⟩ => ⟨S16384x1, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S512x1, .f32⟩
  | .hbm, ⟨26, _⟩ => ⟨S512, .f32⟩
  | .hbm, ⟨27, _⟩ => ⟨S16384x1, .f32⟩
  | .hbm, ⟨28, _⟩ => ⟨S16384, .f32⟩
  | .hbm, ⟨29, _⟩ => ⟨S1x512, .f32⟩
  | .hbm, ⟨30, _⟩ => ⟨S16384x1, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .i1⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512x1, .f32⟩
  | .hbm, ⟨46, _⟩ => ⟨S16384x512x1, .f32⟩
  | .hbm, ⟨47, _⟩ => ⟨S16384x512x3, .f32⟩
  | .hbm, ⟨48, _⟩ => ⟨S16384x512x1, .f32⟩
  | .hbm, ⟨49, _⟩ => ⟨S16384x512, .f32⟩
  | .hbm, ⟨50, _⟩ => ⟨S512, .i32⟩
  | .hbm, ⟨51, _⟩ => ⟨S16384x512, .i32⟩
  | .hbm, ⟨52, _⟩ => ⟨S16384x512, .f32⟩
  | .hbm, ⟨53, _⟩ => ⟨S16384x512, .i32⟩
  | .hbm, ⟨54, _⟩ => ⟨S_, .i32⟩
  | .hbm, ⟨55, _⟩ => ⟨S16384x512, .i32⟩
  | .hbm, ⟨56, _⟩ => ⟨S16384x512, .i1⟩
  | .hbm, ⟨57, _⟩ => ⟨S_, .i32⟩
  | .hbm, ⟨58, _⟩ => ⟨S16384x512, .i32⟩
  | .hbm, ⟨59, _⟩ => ⟨S16384x512, .i32⟩
  | .hbm, ⟨60, _⟩ => ⟨S16384x512, .i32⟩
  | .hbm, ⟨61, _⟩ => ⟨S16384x512x1, .i32⟩
  | .hbm, ⟨62, _⟩ => ⟨S1, .i32⟩
  | .hbm, ⟨63, _⟩ => ⟨S_, .i32⟩
  | .hbm, ⟨64, _⟩ => ⟨S16384x512x1, .i32⟩
  | .hbm, ⟨65, _⟩ => ⟨S16384x512x1, .i1⟩
  | .hbm, ⟨66, _⟩ => ⟨S1x1x1, .i32⟩
  | .hbm, ⟨67, _⟩ => ⟨S16384x512x1, .i32⟩
  | .hbm, ⟨68, _⟩ => ⟨S16384x512x1, .i1⟩
  | .hbm, ⟨69, _⟩ => ⟨S16384x512x1, .i1⟩
  | .hbm, ⟨70, _⟩ => ⟨S_, .i1⟩
  | .hbm, ⟨71, _⟩ => ⟨S16384x512, .i1⟩
  | .hbm, ⟨72, _⟩ => ⟨S16384x512x3, .f32⟩
  | .hbm, ⟨73, _⟩ => ⟨S16384x512x3, .i1⟩
  | .hbm, ⟨74, _⟩ => ⟨S_, .f32⟩
  | .hbm, ⟨75, _⟩ => ⟨S16384x512x3, .f32⟩
  | .hbm, ⟨76, _⟩ => ⟨S16384x512x3, .f32⟩
  | .hbm, ⟨77, _⟩ => ⟨S16384x1, .f32⟩
  | .hbm, ⟨78, _⟩ => ⟨S16384, .f32⟩
  | .hbm, ⟨79, _⟩ => ⟨S_, .f32⟩
  | .hbm, ⟨80, _⟩ => ⟨S16384, .f32⟩
  | .hbm, ⟨81, _⟩ => ⟨S16384, .i1⟩
  | .hbm, ⟨82, _⟩ => ⟨S_, .f32⟩
  | .hbm, ⟨83, _⟩ => ⟨S512x3, .f32⟩
  | .hbm, ⟨84, _⟩ => ⟨S16384x512x3, .f32⟩
  | .hbm, ⟨85, _⟩ => ⟨S16384x512x3, .i1⟩
  | .hbm, ⟨86, _⟩ => ⟨S16384x512x3, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_cst_0 : Ref sig .tc := ⟨.hbm, 35, rfl⟩
abbrev main_v32 : Ref sig .tc := ⟨.hbm, 36, rfl⟩
abbrev main_v33 : Ref sig .tc := ⟨.hbm, 37, rfl⟩
abbrev main_cst_1 : Ref sig .tc := ⟨.hbm, 38, rfl⟩
abbrev main_v34 : Ref sig .tc := ⟨.hbm, 39, rfl⟩
abbrev main_v35 : Ref sig .tc := ⟨.hbm, 40, rfl⟩
abbrev main_cst_2 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_call1_v0 : Ref sig .tc := ⟨.hbm, 50, rfl⟩
abbrev main_call1_v1 : Ref sig .tc := ⟨.hbm, 51, rfl⟩
abbrev main_call1_v2_0 : Ref sig .tc := ⟨.hbm, 52, rfl⟩
abbrev main_v44 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_3 : Ref sig .tc := ⟨.hbm, 79, rfl⟩
abbrev main_v48 : Ref sig .tc := ⟨.hbm, 80, rfl⟩
abbrev main_v49 : Ref sig .tc := ⟨.hbm, 81, rfl⟩
abbrev main_cst_4 : Ref sig .tc := ⟨.hbm, 82, rfl⟩
abbrev main_v50 : Ref sig .tc := ⟨.hbm, 83, rfl⟩
abbrev main_call3_v0 : Ref sig .tc := ⟨.hbm, 84, rfl⟩
abbrev main_call3_v1 : Ref sig .tc := ⟨.hbm, 85, rfl⟩
abbrev main_v51 : Ref sig .tc := ⟨.hbm, 86, rfl⟩

abbrev nD : Nat := 1
abbrev τ : Topo := Topo.v7x

variable {F : FTy → Type} [FloatOps F]
-- ==== Proof.Planes.lean ====
module

public import proofs.«01_k».proof.Proof.Gen.KernelIdeal.Skeleton
public import Idealize.ShloMosaic.Lib.Pointwise
public import Idealize.ShloMosaic.Lib.Writes
public import Idealize.ShloMosaic.Lib.Pipeline.Value
public import Idealize.ShloMosaic.Lib.ValueIdxCore
public import Idealize.ShloMosaic.Lib.Tactic

@[expose] public section

noncomputable section

/-! The kernel's output array, index by index: the 3×512 table it computes, each of its rows repeated over the rows of
    one plane; and what the copies through one plane's windows write. -/

namespace Cert.KernelIdeal.Hand

open Cert.KernelIdeal Cert.KernelIdeal.Gen
open Idealize.ShloMosaic

variable {F : FTy → Type} [FloatOps F]

/-- The staging scratch and the array left in HBM, each whole. -/
abbrev scM : Memref sig .tc .vmem S3x2048x512 .f32 := Memref.whole cc0_scratch0
abbrev hbM : Memref sig .tc .hbm S3x16384x512 .f32 := Memref.whole main_v1

/-- The table of the sorted stones, from the first coordinate row `x0` and the stones `x1`. -/
def tbl (x0 : Vec F S1x3 .f32) (x1 : Vec F S512x3 .f32) : FVec F S3x512 .f32 :=
  k0_pay7
    (k0_pay3 x1 (fun _ => x0 (ix2 0 1)) (fun _ => x0 (ix2 0 2)))
    (k0_pay4 x1 (fun _ => x0 (ix2 0 1)) (fun _ => x0 (ix2 0 2)))
    (k0_pay5 x1 (fun _ => x0 (ix2 0 1)) (fun _ => x0 (ix2 0 2)))
    (k0_pay6 x1 (fun _ => x0 (ix2 0 1)) (fun _ => x0 (ix2 0 2)))
    (fun _ => x0 (ix2 0 0))

/-- The array the copies leave: at plane `c` and stone `j` the table's entry, the same in every row. -/
def outC (T : FVec F S3x512 .f32) : S3x16384x512.Idx → F .f32 := fun y => T (ix2 (y 0) (y 2))

theorem pay8_apply (a : FVec F S512x1 .f32) (b : FVec F S512x1 .f32) (p : FVec F S512x512 .f32) (q : FVec F S512 .f32) (w : Vec F S1x1 .f32)
    (y : S1x2048x512.Idx) : k0_pay8 a b p q w y = k0_pay7 a b p q w (ix2 0 (y 2)) := by
  unfold k0_pay8
  pointwise
theorem pay9_apply (T : FVec F S3x512 .f32) (y : S1x2048x512.Idx) : k0_pay9 T y = T (ix2 1 (y 2)) := by
  unfold k0_pay9
  pointwise
theorem pay10_apply (T : FVec F S3x512 .f32) (y : S1x2048x512.Idx) : k0_pay10 T y = T (ix2 2 (y 2)) := by
  unfold k0_pay10
  pointwise

/-- A window's rows seen without their unit axis: the row and stone coordinates, each way. -/
theorem unsqueeze_val (h : S2048x512.numel = S1x2048x512.numel) (i : S2048x512.Idx) :
    (Shape.reshapeEquiv h i : S1x2048x512.Idx) 2 = i 1 := by
  pointwise

theorem squeeze_val (h : S2048x512.numel = S1x2048x512.numel) (x : S1x2048x512.Idx) :
    ((Shape.reshapeEquiv h).symm x : S2048x512.Idx) 1 = x 2 := by
  obtain ⟨i, rfl⟩ := (Shape.reshapeEquiv h).surjective x
  rw [Equiv.symm_apply_apply, unsqueeze_val]

/-- A store to one plane of the staging scratch, whose payload repeats one row. -/
theorem stage_write (p : ℕ) (hp : p < 3) (inb : ∀ a, (![p, 0, 0] : Fin 3 → ℕ) a + S1x2048x512.size a ≤ S3x2048x512.size a)
    (f : S3x2048x512.Idx → F .f32) (w : S1x2048x512.Idx → F .f32) (R : Fin 512 → F .f32) (hw : ∀ i, w i = R (i 2)) :
    (scM.view.slice (Rect.unit (s := S3x2048x512) ![p, 0, 0] S1x2048x512.size inb)).write (Elt F) f w Finset.univ
      = fun y : S3x2048x512.Idx => if (y 0).val = p then R (y 2) else f y := by
  refine (View.write_whole_slice_unit (Val := Elt F) cc0_scratch0 ![p, 0, 0] S1x2048x512.size inb f w).trans ?_
  funext y
  have h1 : (y 1).val < 2048 := (y 1).isLt
  have h2 : (y 2).val < 512 := (y 2).isLt
  unfold updateSlice
  by_cases h : (y 0).val = p
  · rw [if_pos h, dif_pos, hw]
    · rfl
    · intro a
      match a with
      | ⟨0, _⟩ => exact ⟨h.ge, by show (y 0).val < p + 1; omega⟩
      | ⟨1, _⟩ => exact ⟨Nat.zero_le _, by show (y 1).val < 0 + 2048; omega⟩
      | ⟨2, _⟩ => exact ⟨Nat.zero_le _, by show (y 2).val < 0 + 512; omega⟩
  · rw [if_neg h, dif_neg]
    intro hin
    have h0 : p ≤ (y 0).val ∧ (y 0).val < p + 1 := hin 0
    omega

/-- The same store as the newest of a list of stores. -/
theorem stage_writes (p : ℕ) (hp : p < 3) (inb : ∀ a, (![p, 0, 0] : Fin 3 → ℕ) a + (![1, 2048, 512] : Fin 3 → ℕ) a ≤ S3x2048x512.size a)
    (f : S3x2048x512.Idx → F .f32) (L : List (View.Piece (Elt F) S3x2048x512 .f32)) (w : S1x2048x512.Idx → F .f32) (R : Fin 512 → F .f32)
    (hw : ∀ i, w i = R (i 2)) (y : S3x2048x512.Idx) (hy : (y 0).val = p) :
    scM.view.writes (Elt F) f ((⟨Rect.unit ![p, 0, 0] ![1, 2048, 512] inb, w⟩ : View.Piece (Elt F) S3x2048x512 .f32) :: L) y = R (y 2) :=
  (congrFun (stage_write p hp inb (scM.view.writes (Elt F) f L) w R hw) y).trans (if_pos hy)

/-- The word a load of one element of the first coordinate row reads. -/
theorem load_word (x : S1x3.Idx → F .f32) (o : Fin 3) (inb : ∀ a, (![0, o.val] : Fin 2 → ℕ) a + (![1, 1] : Fin 2 → ℕ) a ≤ S1x3.size a) :
    (fun k : S1x1.Idx => x ((Rect.unit (s := S1x3) ![0, o.val] ![1, 1] inb).toLoadRect.idx k)) = fun _ => x (ix2 0 o) := by
  funext k
  have h0 : (k 0).val < 1 := (k 0).isLt
  have h1 : (k 1).val < 1 := (k 1).isLt
  congr 1
  funext a
  match a with
  | ⟨0, _⟩ => exact Fin.ext (show 0 + 1 * (k 0).val = 0 by omega)
  | ⟨1, _⟩ => exact Fin.ext (show o.val + 1 * (k 1).val = o.val by omega)

/-- The load of all the stones reads them all. -/
theorem load_all (x : S512x3.Idx → F .f32) (inb : ∀ a, (![0, 0] : Fin 2 → ℕ) a + (![512, 3] : Fin 2 → ℕ) a ≤ S512x3.size a) :
    (fun k : S512x3.Idx => x ((Rect.unit (s := S512x3) ![0, 0] ![512, 3] inb).toLoadRect.idx k)) = x := by
  funext k
  congr 1
  funext a
  match a with
  | ⟨0, _⟩ => exact Fin.ext (show 0 + 1 * (k 0).val = (k 0).val by omega)
  | ⟨1, _⟩ => exact Fin.ext (show 0 + 1 * (k 1).val = (k 1).val by omega)

/-- A copy into one window of one plane of the array in HBM, of words that repeat one row. -/
theorem out_write (p o : ℕ) (inb : ∀ a, (![p, o, 0] : Fin 3 → ℕ) a + S1x2048x512.size a ≤ S3x16384x512.size a)
    (hr : ∀ a, (Rect.unit (s := S3x16384x512) ![p, o, 0] S1x2048x512.size inb).stride a = 1)
    (hs : (Rect.unit (s := S3x16384x512) ![p, o, 0] S1x2048x512.size inb).shape.Squeezes S2048x512)
    (f : S3x16384x512.Idx → F .f32) (w : S2048x512.Idx → F .f32) (R : Fin 512 → F .f32) (hw : ∀ i, w i = R (i 1)) :
    View.write (Elt F) ((hbM.slice (Rect.unit (s := S3x16384x512) ![p, o, 0] S1x2048x512.size inb) hr).squeeze S2048x512 hs).view f w Finset.univ
      = fun y : S3x16384x512.Idx => if (y 0).val = p ∧ o ≤ (y 1).val ∧ (y 1).val < o + 2048 then R (y 2) else f y := by
  refine (View.write_reshape_univ (Val := Elt F) (hbM.slice (Rect.unit (s := S3x16384x512) ![p, o, 0] S1x2048x512.size inb) hr).view
    (Shape.Squeezes.numel_eq hs) f w).trans ?_
  refine (View.write_whole_slice_unit (Val := Elt F) main_v1 ![p, o, 0] S1x2048x512.size inb f _).trans ?_
  funext y
  have h1 : (y 1).val < 16384 := (y 1).isLt
  have h2 : (y 2).val < 512 := (y 2).isLt
  unfold updateSlice
  by_cases h : (y 0).val = p ∧ o ≤ (y 1).val ∧ (y 1).val < o + 2048
  · rw [if_pos h]
    refine (dif_pos ?_).trans ((hw _).trans (congrArg R ((squeeze_val _ _).trans (Fin.ext ?_))))
    · intro a
      match a with
      | ⟨0, _⟩ => exact ⟨h.1.ge, by show (y 0).val < p + 1; omega⟩
      | ⟨1, _⟩ => exact ⟨h.2.1, h.2.2⟩
      | ⟨2, _⟩ => exact ⟨Nat.zero_le _, by show (y 2).val < 0 + 512; omega⟩
    · rfl
  · rw [if_neg h]
    refine dif_neg fun hin => ?_
    have h0 : p ≤ (y 0).val ∧ (y 0).val < p + 1 := hin 0
    have h1 : o ≤ (y 1).val ∧ (y 1).val < o + 2048 := hin 1
    omega

/-- A place before the end of a window and not in it lies before the window. -/
theorem window_arith {n k a b p o : ℕ} (h : a * n + b < p * n + o + k) (hb : b < n) (ho : o + k ≤ n)
    (hn : ¬ (a = p ∧ o ≤ b ∧ b < o + k)) : a * n + b < p * n + o := by
  rcases Nat.lt_trichotomy a p with h1 | h1 | h1
  · have := Nat.mul_le_mul_right n (Nat.succ_le_of_lt h1)
    rw [Nat.succ_mul] at this
    omega
  · subst h1
    by_contra hc
    exact hn ⟨rfl, by omega, by omega⟩
  · have := Nat.mul_le_mul_right n (Nat.succ_le_of_lt h1)
    rw [Nat.succ_mul] at this
    omega

/-- One more window copied: the array agrees with the table's one window further along. -/
theorem out_step (T : FVec F S3x512 .f32) (p o : ℕ) (inb : ∀ a, (![p, o, 0] : Fin 3 → ℕ) a + S1x2048x512.size a ≤ S3x16384x512.size a)
    (hr : ∀ a, (Rect.unit (s := S3x16384x512) ![p, o, 0] S1x2048x512.size inb).stride a = 1)
    (hs : (Rect.unit (s := S3x16384x512) ![p, o, 0] S1x2048x512.size inb).shape.Squeezes S2048x512)
    (f : S3x16384x512.Idx → F .f32) (w : S2048x512.Idx → F .f32) (q : Fin 3) (hw : ∀ i, w i = T (ix2 q (i 1))) (hq : q.val = p)
    (hf : ∀ y : S3x16384x512.Idx, (y 0).val * 16384 + (y 1).val < p * 16384 + o → f y = outC T y)
    (y : S3x16384x512.Idx) (hy : (y 0).val * 16384 + (y 1).val < p * 16384 + o + 2048) :
    View.write (Elt F) ((hbM.slice (Rect.unit (s := S3x16384x512) ![p, o, 0] S1x2048x512.size inb) hr).squeeze S2048x512 hs).view f w Finset.univ y
      = outC T y := by
  refine (congrFun (out_write p o inb hr hs f w (fun j => T (ix2 q j)) hw) y).trans ?_
  have h1 : (y 1).val < 16384 := (y 1).isLt
  have ho : o + 2048 ≤ 16384 := by have := inb 1; simpa using this
  by_cases h : (y 0).val = p ∧ o ≤ (y 1).val ∧ (y 1).val < o + 2048
  · rw [if_pos h]
    have hq' : q = y 0 := Fin.ext (hq.trans h.1.symm)
    unfold outC
    rw [hq']
  · rw [if_neg h]
    exact hf y (window_arith hy h1 ho h)

/-- What a copy out of one plane of the staging scratch reads, when the plane repeats one row. -/
theorem stage_read (p : ℕ) (hp : p < 3) (inb : ∀ a, (![p, 0, 0] : Fin 3 → ℕ) a + S1x2048x512.size a ≤ S3x2048x512.size a)
    (hr : ∀ a, (Rect.unit (s := S3x2048x512) ![p, 0, 0] S1x2048x512.size inb).stride a = 1)
    (hs : (Rect.unit (s := S3x2048x512) ![p, 0, 0] S1x2048x512.size inb).shape.Squeezes S2048x512)
    (f : S3x2048x512.Idx → F .f32) (R : Fin 512 → F .f32) (hf : ∀ y : S3x2048x512.Idx, (y 0).val = p → f y = R (y 2)) (i : S2048x512.Idx) :
    View.read (Elt F) ((scM.slice (Rect.unit (s := S3x2048x512) ![p, 0, 0] S1x2048x512.size inb) hr).squeeze S2048x512 hs).view f i = R (i 1) := by
  have e := Memref.read_squeeze_slice (Val := Elt F) scM (Rect.unit (s := S3x2048x512) ![p, 0, 0] S1x2048x512.size inb) hr hs hs.numel_eq f
  refine (congrFun e i).trans ?_
  refine (hf _ ?_).trans (congrArg R ?_)
  · show p + 1 * ((Shape.reshapeEquiv hs.numel_eq i : S1x2048x512.Idx) 0).val = p
    have : ((Shape.reshapeEquiv hs.numel_eq i : S1x2048x512.Idx) 0).val < 1 := Fin.isLt _
    omega
  · refine Eq.trans (Fin.ext ?_) (unsqueeze_val hs.numel_eq i)
    show 0 + 1 * ((Shape.reshapeEquiv hs.numel_eq i : S1x2048x512.Idx) 2).val = _
    rw [zero_add, one_mul]

end Cert.KernelIdeal.Hand
end
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Planes
public import Idealize.ShloMosaic.Lib.Pipeline.FrameSuffixV
public import Idealize.ShloMosaic.Lib.Batch
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- A memref's own elements, held whole at a buffer's contents. -/
def hold (c : Dev nD) {sp : Space} {S : Shape} {e : EltTy} (M : Memref sig .tc sp S e) (f : Buf (Elt F) (M.view.loc (c : Thread nD τ))) : sProp 𝕄 :=
  M.view.loc (c : Thread nD τ) ↦[M.view.set]{fullShare} f

/-- A memref's whole buffer, held at a buffer's contents. -/
def holdW (c : Dev nD) {sp : Space} {S : Shape} {e : EltTy} (M : Memref sig .tc sp S e) (f : Buf (Elt F) (M.view.loc (c : Thread nD τ))) : sProp 𝕄 :=
  M.view.loc (c : Thread nD τ) ↦{fullShare} f

set_option pp.maxSteps 3000 in
set_option sl_exec.rejoinFuel 64 in
theorem run0 (c : Dev nD) (arg0 : Memref sig .tc .vmem S1x3 .f32) (harg0 : arg0.IsWhole)
    (arg1 : Memref sig .tc .vmem S512x3 .f32) (harg1 : arg1.IsWhole)
    (f0 : Buf (Elt F) (arg0.view.loc (c : Thread nD τ))) (f1 : Buf (Elt F) (arg1.view.loc (c : Thread nD τ)))
    (fs : Buf (Elt F) (scM.view.loc (c : Thread nD τ))) (fo : Buf (Elt F) (hbM.view.loc (c : Thread nD τ)))
    (W : Waits sig Unit) (K : PUnit → sProp 𝕄)
    (_plan : Transfers.BatchOf (c : Thread nD τ) (SemLoc.dma (sig := sig) 2) 24 (windows := true)) :
    iprop(hold c arg0 f0
        ∗ hold c arg1 f1
        ∗ holdW c scM fs
        ∗ holdW c hbM fo
        ∗ semVal ((c : Thread nD τ), SemLoc.dma 2) 0
        ∗ owes (c : Thread nD τ) 0 W
        ∗ (iprop(hold c arg0 f0
            ∗ hold c arg1 f1
            ∗ (∃ f, holdW c scM f)
            ∗ (∃ g, ⌜g = outC (tbl (arg0.view.read (Elt F) f0) (arg1.view.read (Elt F) f1))⌝ ∗ holdW c hbM g)
            ∗ semVal ((c : Thread nD τ), SemLoc.dma 2) 0
            ∗ (∃ W', owes (c : Thread nD τ) 0 W')) -∗ K ⟨⟩))
      ⊢ wp frame (wpE (defs₀ (F := F)) Variants.none c none) Set.univ
          (cc0__fused_kernel arg0 harg0 arg1 harg1 hbM (Memref.isWhole_whole _) scM (Memref.isWhole_whole _) cc0_scratch1) K := by
  simp only [cc0__fused_kernel_eq_skeleton]; unfold cc0__fused_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel
    k0_part9_skel k0_part10_skel
  simp only [Prog.lift, Prog.bind_op, Prog.bind_ret, Prog.pure_eq_ret, Prog.bind_assoc]
  unfold hold holdW
  iintro ⟨H0, H1, HS, Ho, Hq, HW, Hk⟩
  sl_exec
  sl_step
  iapply Hk
  isplitl [H0]; · iexact H0
  isplitl [H1]; · iexact H1
  isplitl [HS]; · iexists _; iexact HS
  isplitl [Ho]
  · iexists _; isplitr; swap; · iexact Ho
    ipureintro
    have l0 : View.readAt (Elt F) arg0.view (Rect.unit ![0, 0] ![1, 1] inb_S1x3_S1x1_0_0).toLoadRect f0
        = fun _ => arg0.view.read (Elt F) f0 (ix2 0 0) := load_word (arg0.view.read (Elt F) f0) 0 inb_S1x3_S1x1_0_0
    have l1 : View.readAt (Elt F) arg0.view (Rect.unit ![0, 1] ![1, 1] inb_S1x3_S1x1_0_1).toLoadRect f0
        = fun _ => arg0.view.read (Elt F) f0 (ix2 0 1) := load_word (arg0.view.read (Elt F) f0) 1 inb_S1x3_S1x1_0_1
    have l2 : View.readAt (Elt F) arg0.view (Rect.unit ![0, 2] ![1, 1] inb_S1x3_S1x1_0_2).toLoadRect f0
        = fun _ => arg0.view.read (Elt F) f0 (ix2 0 2) := load_word (arg0.view.read (Elt F) f0) 2 inb_S1x3_S1x1_0_2
    have la : View.readAt (Elt F) arg1.view (Rect.unit ![0, 0] ![512, 3] inb_S512x3_S512x3_0_0).toLoadRect f1
        = arg1.view.read (Elt F) f1 := load_all (arg1.view.read (Elt F) f1) inb_S512x3_S512x3_0_0
    have e1 : ∀ y : S3x2048x512.Idx, (y 0).val = 0 → scM.view.writes (Elt F) fs (run0.sl.HS_1 c arg0 arg1 f0 f1) y
        = tbl (arg0.view.read (Elt F) f0) (arg1.view.read (Elt F) f1) (ix2 0 (y 2)) := by
      unfold run0.sl.HS_1
      rw [l0, l1, l2, la]
      exact stage_writes 0 (by decide) _ fs _ _ (fun j => tbl (arg0.view.read (Elt F) f0) (arg1.view.read (Elt F) f1) (ix2 0 j))
        (fun i => pay8_apply _ _ _ _ _ i)
    have e2 : ∀ y : S3x2048x512.Idx, (y 0).val = 1 → scM.view.writes (Elt F) fs (run0.sl.HS_2 c arg0 arg1 f0 f1) y
        = tbl (arg0.view.read (Elt F) f0) (arg1.view.read (Elt F) f1) (ix2 1 (y 2)) := by
      unfold run0.sl.HS_2
      rw [l0, l1, l2, la]
      exact stage_writes 1 (by decide) _ fs _ _ (fun j => tbl (arg0.view.read (Elt F) f0) (arg1.view.read (Elt F) f1) (ix2 1 j))
        (fun i => pay9_apply _ i)
    have e3 : ∀ y : S3x2048x512.Idx, (y 0).val = 2 → scM.view.writes (Elt F) fs (run0.sl.HS_3 c arg0 arg1 f0 f1) y
        = tbl (arg0.view.read (Elt F) f0) (arg1.view.read (Elt F) f1) (ix2 2 (y 2)) := by
      unfold run0.sl.HS_3
      rw [l0, l1, l2, la]
      exact stage_writes 2 (by decide) _ fs _ _ (fun j => tbl (arg0.view.read (Elt F) f0) (arg1.view.read (Elt F) f1) (ix2 2 j))
        (fun i => pay10_apply _ i)
    generalize tbl (arg0.view.read (Elt F) f0) (arg1.view.read (Elt F) f1) = T at e1 e2 e3 ⊢
    have h6 : ∀ i, run0.sl.dma6 c arg0 arg1 f0 f1 fs i = T (ix2 0 (i 1)) :=
      stage_read 0 (by decide) _ _ _ _ (fun j => T (ix2 0 j)) e1
    have h16 : ∀ i, run0.sl.dma16 c arg0 arg1 f0 f1 fs i = T (ix2 1 (i 1)) :=
      stage_read 1 (by decide) _ _ _ _ (fun j => T (ix2 1 j)) e2
    have h26 : ∀ i, run0.sl.dma26 c arg0 arg1 f0 f1 fs i = T (ix2 2 (i 1)) :=
      stage_read 2 (by decide) _ _ _ _ (fun j => T (ix2 2 j)) e3
    refine funext fun (y : S3x16384x512.Idx) => ?_
    have hy0 : (y 0).val < 3 := (y 0).isLt
    have hy1 : (y 1).val < 16384 := (y 1).isLt
    have hy : (y 0).val * 16384 + (y 1).val < 2 * 16384 + 14336 + 2048 := by omega
    clear hy0 hy1
    revert y
    iterate 8
      refine fun y hy => out_step T _ _ _ _ _ _ _ 2 h26 rfl ?_ y hy
    iterate 8
      refine fun y hy => out_step T _ _ _ _ _ _ _ 1 h16 rfl ?_ y hy
    iterate 8
      refine fun y hy => out_step T _ _ _ _ _ _ _ 0 h6 rfl ?_ y hy
    intro y hy
    omega
  isplitl [Hq]; · iexact Hq
  iexists _; iexact HW

end Cert.KernelIdeal.Hand
end
-- ==== Proof.Launch.lean ====
module

public import proofs.«01_k».proof.Proof.Body

@[expose] public section

noncomputable section

/-! The whole kernel program: the host's slice, the one pipelined call around the body run, the host's transpose;
    its result array named, its arguments unchanged, every semaphore counter back at zero. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's own semaphore cell. -/
abbrev osem0 : Fin 1 → SemLoc sig := fun _ => SemLoc.dma 2
theorem ownSemFacts0 : Pipeline.OwnSemFacts spec0 osem0 := by decide

/-- The body's transfers read no array left in HBM, and write one. -/
def H0 : Finset (Ref sig .tc) := ∅
def R0 : Finset (Ref sig .tc) := {main_v1}
theorem H0_sub : H0 ⊆ Pipeline.restRefs sig spec0 := by decide
theorem R0_sub : R0 ⊆ Pipeline.restRefs sig spec0 \ H0 := by decide

theorem hmainD : Pipeline.HMainK (Ix := Unit) (Name := ℕ) (U := Pipeline.UD sig nD τ) (Lvl := ℕ) cfgs 0 defs₀ Variants.none m (main (F := F)) (Gen.V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What the body leaves in the array in HBM: the table of the two blocks, spread over the rows. -/
def G (c : Dev nD) (b : Ref sig .tc) : Buf (Elt F) ((c : Thread nD τ).loc b) :=
  if h : b = main_v1 then h ▸ (outC (tbl (iblk m c 0 t0_0) (iblk m c 1 t0_0)) : S3x16384x512.Idx → F .f32) else Gen.V m c b

theorem G_v1 (c : Dev nD) : G m c main_v1 = (outC (tbl (iblk m c 0 t0_0) (iblk m c 1 t0_0)) : S3x16384x512.Idx → F .f32) := by
  unfold G
  rw [dif_pos rfl]

theorem sep_emp_r (P : sProp 𝕄) : BI.sep P BI.emp = P := equiv_iff.mp BI.sep_emp
theorem emp_sep_l (P : sProp 𝕄) : BI.sep BI.emp P = P := equiv_iff.mp BI.emp_sep

/-- What the pipeline's invariant says: the staging scratch at anything, the cell at zero, the array in HBM at `X`. -/
theorem Phi_eq (X : (c : Dev nD) → (b : Ref sig .tc) → Buf (Elt F) ((c : Thread nD τ).loc b)) (c : Dev nD) :
    (Pipeline.ΦDRV osem0 spec0 H0 R0 (Gen.V m) X c : sProp 𝕄)
      = iprop((∃ f, holdW c scM f) ∗ semVal ((c : Thread nD τ), SemLoc.dma 2) 0 ∗ holdW c hbM (X c main_v1)) := by
  unfold Pipeline.ΦDRV
  rw [scopedRest0_eq, Pipeline.ownSems0_eq_of_list c osem0 [0] (by decide) (by decide)]
  simp only [H0, R0, bigSep_empty, bigSep_singleton, bigSepL_cons, bigSepL_nil]
  rw [sep_emp_r]
  exact congrArg (fun z : sProp 𝕄 => iprop((∃ f, holdW c scM f) ∗ semVal ((c : Thread nD τ), SemLoc.dma 2) 0 ∗ z))
    (emp_sep_l (holdW c hbM (X c main_v1)))

/-- The pipeline's proof data: both windows are only read; the invariant names the array in HBM before and after. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => iblk m c 1 t
  Φ t := Pipeline.ΦDRV osem0 spec0 H0 R0 (Gen.V m) (if t = 0 then Gen.V m else G m) c
  q _ := fullShare
  owed _ := 0

theorem before_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl

/-- A window's buffer, held: its cells at some content that reads as the block. -/
theorem owns_hold (c : Dev nD) {σ : Space} {s : Shape} {e : EltTy} (M : Memref sig .tc σ s e) (d : s.Idx → Elt F e) :
    (owns (c : Thread nD τ) M fullShare d : sProp 𝕄) = iprop(∃ f, ⌜M.view.read (Elt F) f = d⌝ ∗ hold c M f) := by
  unfold owns hold
  rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  simp only [before_0, before_1]
  rw [show (dats m 0 c).Φ (Fin.castSucc t0_0) = Pipeline.ΦDRV osem0 spec0 H0 R0 (Gen.V m) (Gen.V m) c from rfl,
    show (dats m 0 c).Φ (Fin.succ t0_0) = Pipeline.ΦDRV osem0 spec0 H0 R0 (Gen.V m) (G m) c from rfl, Phi_eq, Phi_eq,
    show (dats m 0 c).after 0 t0_0 = iblk m c 0 t0_0 from rfl, show (dats m 0 c).after 1 t0_0 = iblk m c 1 t0_0 from rfl, G_v1]
  unfold Dat.owesAt Pipeline.owesWithin
  rw [show (dats m 0 c).owed (Fin.castSucc t0_0) = 0 from rfl, show (dats m 0 c).owed (Fin.succ t0_0) = 0 from rfl]
  generalize iblk m c 0 t0_0 = x0
  generalize iblk m c 1 t0_0 = x1
  simp only [owns_hold]
  iintro ⟨⟨⟨%fs, HS⟩, Hq, Ho⟩, ⟨%W, -, HW⟩, ⟨%d0, %f0, %h0, H0⟩, ⟨%d1, %f1, %h1, H1⟩⟩
  iapply (run0 c (st0_0 t0_0) (hstage0_0 0) (st0_1 t0_0) (hstage0_1 0) f0 f1 fs _ W _ trivial)
  isplitl [H0]; · iexact H0
  isplitl [H1]; · iexact H1
  isplitl [HS]; · iexact HS
  isplitl [Ho]; · iexact Ho
  isplitl [Hq]; · iexact Hq
  isplitl [HW]; · iexact HW
  iintro ⟨H0, H1, HS, ⟨%g, %hg, Ho⟩, Hq, ⟨%W', HW'⟩⟩
  subst hg
  rw [h0, h1]
  isplitl [HS Hq Ho]
  · isplitl [HS]; · iexact HS
    isplitl [Hq]; · iexact Hq
    iexact Ho
  isplitl [HW']
  · iexists W'; isplitr; · ipureintro; exact fun _ _ => Or.inl trivial
    iexact HW'
  isplitl [H0]
  · iexists f0; isplitr
    · ipureintro; exact h0
    · iexact H0
  · iexists f1; isplitr
    · ipureintro; exact h1
    · iexact H1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The first coordinate row, and the stones, as the program is launched with them. -/
def row0 (c : Dev nD) : Vec F S1x3 .f32 := fun k => (m ((c : Thread nD τ).loc main_arg0) : S16384x3.Idx → F .f32) (ix2 0 (k 1))
def stones (c : Dev nD) : Vec F S512x3 .f32 := (m ((c : Thread nD τ).loc main_arg1) : S512x3.Idx → F .f32)

/-- The result: one table of the first row, the same for every row. -/
def result (c : Dev nD) : S16384x512x3.Idx → F .f32 := fun y => tbl (row0 m c) (stones m c) (ix2 (y 2) (y 1))

theorem iblk0_eq (c : Dev nD) : iblk m c 0 t0_0 = row0 m c := by
  unfold iblk
  rw [show Gen.V m c (Pipeline.arrRef spec0 0) = (row0 m c : S1x3.Idx → F .f32) from by
    show StableHlo.after hostOps0 (fun b => m (c, b)) (Proc.devRef .tc main_v0) = _
    after_results
    unfold row0
    funext k
    refine congrArg (m ((c : Thread nD τ).loc main_arg0) : S16384x3.Idx → F .f32) ?_
    funext a
    apply Fin.ext
    fin_cases a
    · have h : ((k 0 : Fin 1) : ℕ) < 1 := (k 0).isLt
      simp
      exact Nat.lt_one_iff.mp h
    · simp]
  generalize row0 m c = x
  exact Memref.read_access_unit_zero (Elt F) main_v0
    (show (fun a => (win0_0.index t0_0) a * main_v0.ty.shape.size a) = fun _ => 0 from
      funext fun a => by fin_cases a <;> decide) (fun a => by fin_cases a <;> decide) x
theorem iblk1_eq (c : Dev nD) : iblk m c 1 t0_0 = stones m c := by
  unfold iblk
  rw [show Gen.V m c (Pipeline.arrRef spec0 1) = (stones m c : S512x3.Idx → F .f32) from V_main_arg1 m c]
  generalize stones m c = x
  exact Memref.read_access_unit_zero (Elt F) main_arg1
    (show (fun a => (win0_1.index t0_0) a * main_arg1.ty.shape.size a) = fun _ => 0 from
      funext fun a => by fin_cases a <;> decide) (fun a => by fin_cases a <;> decide) x

set_option backward.isDefEq.respectTransparency.types false in
theorem run_region : θ_run defs (onTc (τ := τ) (main (F := F))) (s₀ m ρ) (fun r => (∀ c : Dev nD,
      (∀ w, r.2.mem ((cfg0.spec w).arr.view.loc (c.tc : Thread nD τ)) = (dats m 0 c).arrAt w cfg0.N)
      ∧ ∀ b ∈ Pipeline.restRefs sig cfg0.spec, r.2.mem ((c.tc : Thread nD τ).loc b)
          = StableHlo.after hostOps1 (Pipeline.withArrays cfg0.spec c (Pipeline.withR (V0 m c) R0 c (G m c)) fun w => (dats m 0 c).arrAt w cfg0.N) (Proc.devRef .tc b))
      ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m) (hA := fun _ _ => rfl) (hin := fun _ => .rfl) (hout := fun _ => .rfl)

/-- What the result's transpose reads of the array in HBM. -/
theorem tail_v2 (c : Dev nD) :
    StableHlo.after hostOps1 (Pipeline.withArrays cfg0.spec c (Pipeline.withR (V0 m c) R0 c (G m c)) fun w => (dats m 0 c).arrAt w cfg0.N)
      (Proc.devRef .tc main_v2) = (result m c : S16384x512x3.Idx → F .f32) := by
  after_results
  rw [Pipeline.withArrays_of_ne _ c _ _ main_v1 (by decide), Pipeline.withR_of_mem _ _ _ _ main_v1 (by decide), G_v1, iblk0_eq, iblk1_eq]
  unfold result outC
  funext y
  first
  | rfl
  | pointwise

theorem tail_arg0 (c : Dev nD) :
    StableHlo.after hostOps1 (Pipeline.withArrays cfg0.spec c (Pipeline.withR (V0 m c) R0 c (G m c)) fun w => (dats m 0 c).arrAt w cfg0.N)
      (Proc.devRef .tc main_arg0) = m ((c : Thread nD τ).loc main_arg0) := by
  after_results
  rw [Pipeline.withArrays_of_ne _ c _ _ main_arg0 (by decide), Pipeline.withR_of_not_mem _ _ _ _ main_arg0 (by decide)]
  exact V_main_arg0 m c

/-- Every run of the kernel program ends with the result array holding `result`, the arguments unchanged and every counter at zero. -/
theorem run_main : θ_run defs (onTc (τ := τ) (main (F := F))) ⟨m, fun _ => 0, ρ⟩ (fun r => (∀ c : Dev nD,
      r.2.mem ((c.tc : Thread nD τ).loc main_v2) = (result m c : S16384x512x3.Idx → F .f32)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).2 main_v2 (Pipeline.mem_restRefs_of main_v2 (by decide) (by decide))).trans (tail_v2 m c),
      ((h.1 c).2 main_arg0 (Pipeline.mem_restRefs_of main_arg0 (by decide) (by decide))).trans (tail_arg0 m c),
      ((h.1 c).1 1).trans (((dats m 0 c).arrAt_in 1 rfl _).trans (V_main_arg1 m c))⟩, h.2⟩) (run_region m ρ)

end Cert.KernelIdeal.Hand
end
-- ==== Proof.Rank.lean ====
module

public import Idealize.ShloMosaic.Lib.SortFacts
public import Idealize.ShloMosaic.Lib.SortPrefix
public import Mathlib.Data.EReal.Operations

@[expose] public section

noncomputable section

/-! A stable sort by strict comparison, seen through ranks: the element a stable sort puts at place `k` is the one
    whose rank — how many elements come strictly before it, ties broken by position — is `k`. -/

namespace Cert.Ranks

open Idealize.ShloMosaic

variable {n : ℕ} {κ : Type} [LinearOrder κ]

/-- Position `a` comes before position `b`: a smaller key, or the same key and an earlier position. -/
def before (key : Fin n → κ) (a b : Fin n) : Bool := decide (key a < key b) || (decide (key a = key b) && decide (a < b))

theorem before_iff (key : Fin n → κ) (a b : Fin n) : before key a b = true ↔ key a < key b ∨ (key a = key b ∧ a < b) := by
  simp [before]

theorem strict_before (key : Fin n → κ) : StrictTotalBefore (before key) :=
  StrictTotalBefore.of_key_then_position (fun a b : κ => decide (a < b)) key (fun a => by simp)
    (fun a b c h₁ h₂ => by simp only [decide_eq_true_eq] at *; exact lt_trans h₁ h₂)
    (fun a b => by simp only [decide_eq_true_eq]; exact lt_trichotomy a b)

/-- A stable sort of positions in increasing order breaks its ties by position. -/
theorem stableSort_before (key : Fin n → κ) (l : List (Fin n)) (hl : l.Pairwise (· < ·)) :
    stableSort (fun a b => decide (key a < key b)) l = stableSort (before key) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.mp hb)
    simp only [before, not_lt.mpr hab.le, decide_false, Bool.and_false, Bool.or_false]

theorem sortedFrom_before (key : Fin n → κ) : sortedFrom (fun a b => decide (key a < key b)) = sortedFrom (before key) := by
  funext k
  unfold sortedFrom
  have h : sortPositions n (fun a b => decide (key a < key b)) = sortPositions n (before key) :=
    stableSort_before key _ (List.pairwise_lt_finRange n)
  rw [List.get_of_eq h]
  rfl

/-- How many positions come before position `i`. -/
def rank (key : Fin n → κ) (i : Fin n) : ℕ := (Finset.univ.filter fun j => before key j i = true).card

theorem rank_lt (key : Fin n → κ) (i : Fin n) : rank key i < n := by
  have h : (Finset.univ.filter fun j => before key j i = true) ⊂ Finset.univ := by
    refine Finset.filter_ssubset.mpr ⟨i, Finset.mem_univ i, ?_⟩
    rw [(strict_before key).irrefl i]
    decide
  simpa [rank] using Finset.card_lt_card h

/-- The position a stable sort puts at place `k`. -/
def order (key : Fin n → κ) (k : Fin n) : Fin n := sortedFrom (fun a b => decide (key a < key b)) k

theorem order_injective (key : Fin n → κ) : Function.Injective (order key) := sortedFrom_injective _
theorem order_surjective (key : Fin n → κ) : Function.Surjective (order key) := sortedFrom_surjective _

theorem before_order (key : Fin n → κ) (i j : Fin n) : before key (order key i) (order key j) = true ↔ i < j := by
  have hB := strict_before key
  have h : ∀ i j : Fin n, i < j → before key (order key j) (order key i) = false := fun i j hij => by
    unfold order
    rw [sortedFrom_before]
    exact sortedFrom_noInversion (before key) (before key) (fun a b h => hB.asymm a b h) (fun _ _ h => h) hB.negTrans i j hij
  constructor
  · intro hb
    by_contra hij
    rcases (not_lt.mp hij).eq_or_lt with he | hl
    · rw [he, hB.irrefl] at hb
      exact absurd hb (by decide)
    · rw [h j i hl] at hb
      exact absurd hb (by decide)
  · intro hij
    rcases hB.total (order key i) (order key j) (fun e => absurd (order_injective key e) hij.ne) with hb | hb
    · exact hb
    · rw [h i j hij] at hb
      exact absurd hb (by decide)

/-- The element at place `k` has rank `k`. -/
theorem rank_order (key : Fin n → κ) (k : Fin n) : rank key (order key k) = k.val := by
  have h : (Finset.univ.filter fun j => before key j (order key k) = true) = (Finset.Iio k).image (order key) := by
    ext j
    obtain ⟨i, rfl⟩ := order_surjective key j
    simp only [Finset.mem_filter, Finset.mem_univ, true_and, Finset.mem_image, Finset.mem_Iio, before_order]
    exact ⟨fun hi => ⟨i, hi, rfl⟩, fun ⟨i', hi', e⟩ => order_injective key e ▸ hi'⟩
  unfold rank
  rw [h, Finset.card_image_of_injective _ (order_injective key), Fin.card_Iio]

theorem rank_eq_iff (key : Fin n → κ) (i k : Fin n) : rank key i = k.val ↔ i = order key k := by
  constructor
  · intro h
    obtain ⟨k', rfl⟩ := order_surjective key i
    rw [rank_order] at h
    rw [Fin.ext h]
  · rintro rfl
    exact rank_order key k

/-- The one-hot product picks the element at place `k`. -/
theorem sum_pick (key : Fin n → κ) (k : Fin n) (f : Fin n → EReal) :
    ∑ i, (if rank key i = k.val then (1 : EReal) else 0) * f i = f (order key k) := by
  rw [Finset.sum_eq_single (order key k)]
  · rw [if_pos (rank_order key k), one_mul]
  · intro i _ hi
    rw [if_neg (fun h => hi ((rank_eq_iff key i k).mp h)), zero_mul]
  · intro h
    exact absurd (Finset.mem_univ _) h

end Cert.Ranks
end
-- ==== Proof.Table.lean ====
module

public import proofs.«01_k».proof.Proof.Planes
public import proofs.«01_k».proof.Proof.Rank
public import Idealize.ShloMosaic.Lib.Pointwise

@[expose] public section

noncomputable section

/-! The kernel's table over the extended reals: distances and angles of the stones, and each of the three rows put in
    the order of the distances by a one-hot matrix of ranks. -/

namespace Cert.KernelIdeal.Hand

open Cert.KernelIdeal Cert.KernelIdeal.Gen Cert.Ranks
open Idealize.ShloMosaic

variable (x : Vec Ideal S512x3 .f32) (c0 c1 c2 : EReal)

/-- A stone's distance from the coordinate. -/
def dist (i : Fin 512) : EReal :=
  Ideal.sqrt ((x (ix2 i 1) - c1) * (x (ix2 i 1) - c1) + (x (ix2 i 2) - c2) * (x (ix2 i 2) - c2))

/-- A stone's direction in degrees before it is made positive, and after. -/
def deg (i : Fin 512) : EReal := Ideal.atan2 (-(x (ix2 i 1) - c1)) (x (ix2 i 2) - c2) * Ideal.ofBits FTy.f32 0x42652EE1#32
def ang (i : Fin 512) : EReal :=
  if 0 < deg x c1 c2 i then deg x c1 c2 i else Ideal.ofBits FTy.f32 0x43B40000#32 + deg x c1 c2 i

/-- The three columns the sort carries: the stone's first component, its distance, its angle. -/
def col (r : Fin 3) (i : Fin 512) : EReal := ![x (ix2 i 0), dist x c1 c2 i, ang x c1 c2 i] r

/-- The table: the columns in the order of the distances, or zeros when the first coordinate is not zero. -/
def sorted (r : Fin 3) (k : Fin 512) : EReal :=
  if c0 = 0 then col x c1 c2 r (order (dist x c1 c2) k) else 0

theorem pay3_apply (i : Fin 512) : k0_pay3 x (fun _ => c1) (fun _ => c2) (ix2 i 0) = dist x c1 c2 i := by
  unfold k0_pay3 k0_pay2 k0_pay1 dist
  pointwise

theorem pay4_apply (i : Fin 512) : k0_pay4 x (fun _ => c1) (fun _ => c2) (ix2 i 0) = ang x c1 c2 i := by
  unfold k0_pay4 k0_pay2 k0_pay1 ang deg
  pointwise
  simp only [zero_sub]

/-- A sum of indicator words counts. -/
theorem fold_count {ι : Type} [DecidableEq ι] (p : ι → Bool) (S : Finset ι) :
    Finset.fold IntOp.addi 0#32 (fun j => BitVec.setWidth 32 (BitVec.ofBool (p j))) S
      = BitVec.ofNat 32 (S.filter fun j => p j = true).card := by
  induction S using Finset.induction_on with
  | empty => simp
  | insert a S ha ih =>
    rw [Finset.fold_insert ha, ih, Finset.filter_insert]
    cases h : p a
    · simp [IntOp.addi]
    · rw [if_pos rfl, Finset.card_insert_of_notMem (fun hm => ha (Finset.mem_filter.mp hm).1)]
      simp [IntOp.addi, BitVec.ofNat_add, BitVec.add_comm]

theorem toInt_small (a : ℕ) (ha : a < 2 ^ 31) : (BitVec.ofNat 32 a).toInt = a := by
  rw [BitVec.toInt_eq_toNat_of_lt (by rw [BitVec.toNat_ofNat, Nat.mod_eq_of_lt (by omega)]; omega), BitVec.toNat_ofNat,
    Nat.mod_eq_of_lt (by omega)]

theorem slt_word (a b : Fin 512) : IntOp.cmpi .slt (BitVec.ofNat 32 a.val) (BitVec.ofNat 32 b.val) = BitVec.ofBool (decide (a < b)) := by
  have ha := a.isLt
  have hb := b.isLt
  show BitVec.ofBool (BitVec.slt _ _) = _
  rw [BitVec.slt, toInt_small _ (by omega), toInt_small _ (by omega)]
  simp only [Nat.cast_lt, Fin.val_fin_lt]

theorem eq_word (a : ℕ) (ha : a < 512) (b : Fin 512) :
    IntOp.cmpi .eq (BitVec.ofNat 32 a) (BitVec.ofNat 32 b.val) = BitVec.ofBool (decide (a = b.val)) := by
  have hb := b.isLt
  show BitVec.ofBool (BitVec.ofNat 32 a == BitVec.ofNat 32 b.val) = _
  refine congrArg BitVec.ofBool (Bool.eq_iff_iff.mpr ?_)
  rw [beq_iff_eq, decide_eq_true_eq]
  constructor
  · intro h
    have h' := congrArg BitVec.toNat h
    rwa [BitVec.toNat_ofNat, BitVec.toNat_ofNat, Nat.mod_eq_of_lt (by omega), Nat.mod_eq_of_lt (by omega)] at h'
  · rintro rfl
    rfl

theorem sitofp_bit (b : Bool) : (FloatOps.sitofp FTy.f32 (BitVec.setWidth 32 (BitVec.ofBool b)) : Ideal .f32) = if b = true then (1 : EReal) else 0 := by
  show (((BitVec.setWidth 32 (BitVec.ofBool b)).toInt : ℝ) : EReal) = _
  cases b <;> simp

/-- The one-hot matrix: stone `i` goes to place `k` when its rank is `k`. -/
theorem pay5_apply (i k : Fin 512) : k0_pay5 x (fun _ => c1) (fun _ => c2) (ix2 i k) = if rank (dist x c1 c2) i = k.val then (1 : EReal) else 0 := by
  have h : ∀ j : Fin 512, IntOp.ori (BitVec.ofBool (decide (dist x c1 c2 j < dist x c1 c2 i)))
      (IntOp.andi (BitVec.ofBool (decide (dist x c1 c2 j = dist x c1 c2 i))) (IntOp.cmpi CmpIPredicate.slt (BitVec.ofNat 32 j.val) (BitVec.ofNat 32 i.val)))
      = BitVec.ofBool (before (dist x c1 c2) j i) := fun j => by
    rw [slt_word]
    unfold before
    generalize decide (dist x c1 c2 j < dist x c1 c2 i) = p
    generalize decide (dist x c1 c2 j = dist x c1 c2 i) = q
    generalize decide (j < i) = r
    revert p q r
    decide
  unfold k0_pay5
  pointwise
  simp only [pay3_apply, h]
  rw [fold_count]
  show FloatOps.sitofp FTy.f32 (BitVec.setWidth 32 (IntOp.cmpi CmpIPredicate.eq (BitVec.ofNat 32 (rank (dist x c1 c2) i)) _)) = _
  rw [eq_word _ (rank_lt _ _), sitofp_bit]
  simp only [decide_eq_true_eq]

theorem pay6_apply (k : Fin 512) : k0_pay6 x (fun _ => c1) (fun _ => c2) (ix1 k) = col x c1 c2 0 (order (dist x c1 c2) k) := by
  unfold k0_pay6
  pointwise
  simp only [pay5_apply]
  exact sum_pick (dist x c1 c2) k fun i => x (ix2 i 0)

/-- The kernel's table is the sorted table. -/
theorem tbl_apply (x0 : Vec Ideal S1x3 .f32) (r : Fin 3) (k : Fin 512) :
    tbl x0 x (ix2 r k) = sorted x (x0 (ix2 0 0)) (x0 (ix2 0 1)) (x0 (ix2 0 2)) r k := by
  unfold tbl k0_pay7 sorted
  fin_cases r
  · pointwise
    rw [pay6_apply]
  · pointwise
    simp only [pay5_apply, pay3_apply]
    rw [sum_pick]
    rfl
  · pointwise
    simp only [pay5_apply, pay4_apply]
    rw [sum_pick]
    rfl

end Cert.KernelIdeal.Hand
end
-- ==== Proof.RefTable.lean ====
module

public import proofs.«01_k».proof.Proof.Gen.ReferenceIdeal.Run
public import proofs.«01_k».proof.Proof.Table
public import Idealize.ShloMosaic.Lib.Pointwise

@[expose] public section

noncomputable section

/-! The reference's result over the extended reals, stage by stage: distances, angles, the stable sort's positions,
    the three columns taken there. -/

namespace Cert.ReferenceIdeal.Hand

open Cert.ReferenceIdeal Cert.ReferenceIdeal.Gen Cert.Ranks
open Idealize.ShloMosaic Idealize.ShloMosaic.TcCoe

variable {F : FTy → Type} [FloatOps F]

section Stages

variable (a0 : FVec F S16384x3 .f32) (a1 : FVec F S512x3 .f32)

/-- Every stone less every coordinate, in the last two components. -/
def diffs : FVec F S16384x512x2 .f32 :=
  subf (broadcastInDim S16384x512x2 ![0, 1, 2] bcast_S1x512x2_S16384x512x2_0_1_2 (broadcastInDim S1x512x2 ![1, 2] bcast_S512x2_S1x512x2_1_2 (extractStridedSlice S512x2 ![0, 1] a1 slices_S512x3_S512x2_0_1)))
    (broadcastInDim S16384x512x2 ![0, 1, 2] bcast_S16384x1x2_S16384x512x2_0_1_2 (broadcastInDim S16384x1x2 ![0, 2] bcast_S16384x2_S16384x1x2_0_2 (extractStridedSlice S16384x2 ![0, 1] a0 slices_S16384x3_S16384x2_0_1)))

/-- Every stone's distance from every coordinate. -/
def dists : FVec F S16384x512x1 .f32 :=
  Host.sqrt (broadcastInDim S16384x512x1 ![0, 1] bcast_S16384x512_S16384x512x1_0_1
    (Host.reduceAdd (mulf (diffs a0 a1) (diffs a0 a1)) (constant S_ .f32 0x00000000#32) reducesTo_S16384x512x2_S16384x512_d2 h_S_))

/-- One component of every stone less every coordinate. -/
def diff1 : FVec F S16384x512 .f32 :=
  subf (broadcastInDim S16384x512 ![0, 1] bcast_S1x512_S16384x512_0_1 (broadcastInDim S1x512 ![1] bcast_S512_S1x512_1 (shapeCast _ (extractStridedSlice S512x1 ![0, 1] a1 slices_S512x3_S512x1_0_1) shapeCasts_S512x1_S512)))
    (broadcastInDim S16384x512 ![0, 1] bcast_S16384x1_S16384x512_0_1 (broadcastInDim S16384x1 ![0] bcast_S16384_S16384x1_0 (shapeCast _ (extractStridedSlice S16384x1 ![0, 1] a0 slices_S16384x3_S16384x1_0_1) shapeCasts_S16384x1_S16384)))
def diff2 : FVec F S16384x512 .f32 :=
  subf (broadcastInDim S16384x512 ![0, 1] bcast_S1x512_S16384x512_0_1 (broadcastInDim S1x512 ![1] bcast_S512_S1x512_1 (shapeCast _ (extractStridedSlice S512x1 ![0, 2] a1 slices_S512x3_S512x1_0_2) shapeCasts_S512x1_S512)))
    (broadcastInDim S16384x512 ![0, 1] bcast_S16384x1_S16384x512_0_1 (broadcastInDim S16384x1 ![0] bcast_S16384_S16384x1_0 (shapeCast _ (extractStridedSlice S16384x1 ![0, 2] a0 slices_S16384x3_S16384x1_0_2) shapeCasts_S16384x1_S16384)))

/-- Every stone's direction in degrees from every coordinate, and the same made positive. -/
def degs : FVec F S16384x512 .f32 :=
  mulf (Host.atan2 (Host.negf (diff1 a0 a1)) (diff2 a0 a1)) (broadcastInDim S16384x512 ![] bcast_S_S16384x512 (constant S_ .f32 0x42652EE1#32))
def angs : FVec F S16384x512 .f32 :=
  select (cmpf .ogt (degs a0 a1) (broadcastInDim S16384x512 ![] bcast_S_S16384x512 (constant S_ .f32 0x00000000#32))) (degs a0 a1)
    (addf (broadcastInDim S16384x512 ![] bcast_S_S16384x512 (constant S_ .f32 0x43B40000#32)) (degs a0 a1))

/-- The three columns of every coordinate. -/
def cols : FVec F S16384x512x3 .f32 :=
  concatenate S16384x512x3 2 [⟨S16384x512x1, broadcastInDim S16384x512x1 ![1, 2] bcast_S512x1_S16384x512x1_1_2 (extractStridedSlice S512x1 ![0, 0] a1 slices_S512x3_S512x1_0_0)⟩,
    ⟨S16384x512x1, dists a0 a1⟩, ⟨S16384x512x1, shapeCast _ (angs a0 a1) shapeCasts_S16384x512_S16384x512x1⟩]
    concatenates_S16384x512x1_S16384x512x1_S16384x512x1_S16384x512x3_d2

end Stages

/-- The stable sort's positions, by the distance column. -/
def poss (C : FVec F S16384x512x3 .f32) : IVec S16384x512 32 :=
  (Host.sort2 S16384x512 1 comparator_f32_i32_d1
    (shapeCast _ (extractStridedSlice S16384x512x1 ![0, 0, 1] C slices_S16384x512x3_S16384x512x1_0_0_1) shapeCasts_S16384x512x1_S16384x512)
    (broadcastInDim S16384x512 ![1] bcast_S512_S16384x512_1 (iotaInDim S512 32 0))).2

/-- The positions to take, a negative one counted from the end. -/
def starts (P : IVec S16384x512 32) : IVec S16384x512x1 32 :=
  broadcastInDim S16384x512x1 ![0, 1] bcast_S16384x512_S16384x512x1_0_1
    (select (cmpi .slt P (broadcastInDim S16384x512 ![] bcast_S_S16384x512 (constantI S_ 32 0#32)))
      (addi P (broadcastInDim S16384x512 ![] bcast_S_S16384x512 (constantI S_ 32 512#32))) P)

/-- Which positions lie in the table. -/
def inside (S : IVec S16384x512x1 32) : IVec S16384x512 1 :=
  Host.reduce IntOp.andi (andi (cmpi .sge S (broadcastInDim S16384x512x1 ![] bcast_S_S16384x512x1 (constantI S_ 32 0#32)))
    (cmpi .sle S (broadcastInDim S16384x512x1 ![0, 1, 2] bcast_S1x1x1_S16384x512x1_0_1_2 (broadcastInDim S1x1x1 ![2] bcast_S1_S1x1x1_2 (constantI S1 32 511#32)))))
    (constantI S_ 1 1#1) reducesTo_S16384x512x1_S16384x512_d2 h_S_

/-- The columns taken at the positions. -/
def taken (C : FVec F S16384x512x3 .f32) (S : IVec S16384x512x1 32) : FVec F S16384x512x3 .f32 :=
  select (broadcastInDim S16384x512x3 ![0, 1] bcast_S16384x512_S16384x512x3_0_1 (inside S))
    (Host.gather gather_S16384x512x3_S16384x512x1_S16384x512x3_2_1_0_0_1_2_113 C S)
    (broadcastInDim S16384x512x3 ![] bcast_S_S16384x512x3 (constant S_ .f32 0x7FC00000#32))

/-- The reference's result. -/
def out (a0 : FVec F S16384x3 .f32) (a1 : FVec F S512x3 .f32) : FVec F S16384x512x3 .f32 :=
  select (broadcastInDim S16384x512x3 ![0] bcast_S16384_S16384x512x3_0 (cmpf .oeq (shapeCast _ (extractStridedSlice S16384x1 ![0, 0] a0 slices_S16384x3_S16384x1_0_0) shapeCasts_S16384x1_S16384)
      (broadcastInDim S16384 ![] bcast_S_S16384 (constant S_ .f32 0x00000000#32))))
    (taken (cols a0 a1) (starts (poss (cols a0 a1))))
    (broadcastInDim S16384x512x3 ![1, 2] bcast_S512x3_S16384x512x3_1_2 (broadcastInDim S512x3 ![] bcast_S_S512x3 (constant S_ .f32 0x00000000#32)))

theorem res_eq (m : (ℓ : Loc nD τ sig) → Buf (Elt F) ℓ) (c : Dev nD) :
    Value.res_main_v51 m c = (out (m ((c : Thread nD τ).loc main_arg0)) (m ((c : Thread nD τ).loc main_arg1)) : S16384x512x3.Idx → F .f32) := by
  unfold Value.res_main_v51 out taken inside starts poss cols angs degs dists diffs diff1 diff2
  rfl

theorem cols_apply (a0 : FVec Ideal S16384x3 .f32) (a1 : FVec Ideal S512x3 .f32) (r : Fin 16384) (i : Fin 512) (k : Fin 3) :
    cols a0 a1 (ix3 r i k) = KernelIdeal.Hand.col a1 (a0 (ix2 r 1)) (a0 (ix2 r 2)) k i := by
  unfold cols KernelIdeal.Hand.col
  fin_cases k
  · pointwise
  · unfold dists diffs KernelIdeal.Hand.dist
    pointwise
    rw [Fin.sum_univ_two]
    rfl
  · unfold angs degs diff1 diff2 KernelIdeal.Hand.ang KernelIdeal.Hand.deg
    pointwise

/-- The sort's comparison is the strict order of the keys. -/
theorem comparator_lt (a b : EReal) (p q : BitVec 32) :
    (comparator_f32_i32_d1 (F := Ideal) (a, p) (b, q) == 1#1) = decide (a < b) := by
  have key : ∀ c : EReal, Scalar.select (FloatOps.cmpf (F := Ideal) (φ := .f32) .une c c) (FloatOps.ofBits (F := Ideal) .f32 0x7FC00000#32)
      (Scalar.select (FloatOps.cmpf (F := Ideal) (φ := .f32) .oeq c (FloatOps.ofBits (F := Ideal) .f32 0x00000000#32))
        (FloatOps.ofBits (F := Ideal) .f32 0x00000000#32) c) = c := fun c => by
    pointwise
    rw [if_neg (fun h => h rfl)]
    split
    · next h => exact h.symm
    · rfl
  unfold comparator_f32_i32_d1
  simp only [key]
  show (BitVec.ofBool (decide (a < b)) == 1#1) = _
  cases decide (a < b) <;> rfl

/-- The second array of a two-array sort along the columns, at one place. -/
theorem sort_apply (cmp : EReal × BitVec 32 → EReal × BitVec 32 → BitVec 1) (X : S16384x512.Idx → EReal) (Y : S16384x512.Idx → BitVec 32)
    (r : Fin 16384) (k : Fin 512) : (Host.sort2 S16384x512 1 cmp X Y).2 (ix2 r k)
      = Y (ix2 r (sortedFrom (fun a b : Fin 512 => cmp (X (ix2 r a), Y (ix2 r a)) (X (ix2 r b), Y (ix2 r b)) == 1#1) k)) := by
  have hal : ∀ q : Fin 512, Shape.Idx.along (s := S16384x512) (ix2 r k) (1 : Fin 2) q = ix2 r q := fun q => by
    funext a
    fin_cases a <;> rfl
  unfold Host.sort2
  rw [dif_pos (show 1 < S16384x512.rank from by decide)]
  refine Eq.trans (b := Y (Shape.Idx.along (s := S16384x512) (ix2 r k) (1 : Fin 2) (sortedFrom (fun a b : Fin 512 =>
    cmp (X (Shape.Idx.along (s := S16384x512) (ix2 r k) (1 : Fin 2) a), Y (Shape.Idx.along (s := S16384x512) (ix2 r k) (1 : Fin 2) a))
      (X (Shape.Idx.along (s := S16384x512) (ix2 r k) (1 : Fin 2) b), Y (Shape.Idx.along (s := S16384x512) (ix2 r k) (1 : Fin 2) b)) == 1#1) k))) rfl ?_
  simp only [hal]
  exact congrArg Y (hal _)

theorem poss_apply (C : FVec Ideal S16384x512x3 .f32) (r : Fin 16384) (k : Fin 512) :
    poss C (ix2 r k) = BitVec.ofNat 32 (order (fun i : Fin 512 => (C (ix3 r i 1) : EReal)) k).val := by
  have hkey : ∀ q : Fin 512, shapeCast S16384x512 (extractStridedSlice S16384x512x1 ![0, 0, 1] C slices_S16384x512x3_S16384x512x1_0_0_1)
      shapeCasts_S16384x512x1_S16384x512 (ix2 r q) = C (ix3 r q 1) := fun q => by
    pointwise
  unfold poss order
  refine (sort_apply _ _ _ r k).trans ?_
  simp only [comparator_lt, hkey]
  generalize sortedFrom (fun a b : Fin 512 => decide ((C (ix3 r a 1) : EReal) < C (ix3 r b 1))) k = p
  pointwise

theorem starts_apply (P : IVec S16384x512 32) (r : Fin 16384) (k : Fin 512) (j : Fin 512) (h : P (ix2 r k) = BitVec.ofNat 32 j.val) :
    starts P (ix3 r k 0) = BitVec.ofNat 32 j.val := by
  unfold starts
  pointwise
  rw [h, show IntOp.cmpi .slt (BitVec.ofNat 32 j.val) 0#32 = BitVec.ofBool (decide (j < 0)) from KernelIdeal.Hand.slt_word j 0,
    show decide (j < 0) = false from decide_eq_false (not_lt.mpr (Fin.zero_le j))]
  rfl

theorem inside_apply (S : IVec S16384x512x1 32) (r : Fin 16384) (k : Fin 512) (j : Fin 512) (h : S (ix3 r k 0) = BitVec.ofNat 32 j.val) :
    inside S (ix2 r k) = 1#1 := by
  have hj := j.isLt
  unfold inside
  pointwise
  have h0 : IntOp.cmpi .sge (BitVec.ofNat 32 j.val) 0#32 = 1#1 := by
    show BitVec.ofBool (BitVec.sle _ _) = _
    rw [BitVec.sle, KernelIdeal.Hand.toInt_small j.val (by omega)]
    exact congrArg BitVec.ofBool (decide_eq_true (Int.natCast_nonneg _))
  have h1 : IntOp.cmpi .sle (BitVec.ofNat 32 j.val) 511#32 = 1#1 := by
    show BitVec.ofBool (BitVec.sle _ (BitVec.ofNat 32 511)) = _
    rw [BitVec.sle, KernelIdeal.Hand.toInt_small _ (by omega), KernelIdeal.Hand.toInt_small _ (by omega),
      decide_eq_true (by exact_mod_cast (by omega : j.val ≤ 511))]
    rfl
  rw [Finset.univ_unique, Finset.fold_singleton]
  rw [show S (ix3 r k default) = BitVec.ofNat 32 j.val from h, h0, h1]
  rfl

theorem gather_apply (C : FVec Ideal S16384x512x3 .f32) (S : IVec S16384x512x1 32) (r : Fin 16384) (k : Fin 512) (j : Fin 512) (e : Fin 3)
    (h : S (ix3 r k 0) = BitVec.ofNat 32 j.val) :
    Host.gather gather_S16384x512x3_S16384x512x1_S16384x512x3_2_1_0_0_1_2_113 C S (ix3 r k e) = C (ix3 r j e) := by
  have hj := j.isLt
  unfold Host.gather
  refine congrArg C ?_
  funext a
  refine Fin.ext ?_
  show GatherDims.start _ _ _ a + GatherDims.batchCoord _ _ a + GatherDims.offCoord _ _ a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    rfl
  | ⟨1, _⟩ =>
    rw [GatherDims.batchCoord_eq_zero _ _ _ (show (1 : Fin 3) ∉ [(0 : Fin 3)] from by decide),
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : ∀ q, GatherDims.siIdx gather_S16384x512x3_S16384x512x1_S16384x512x3_2_1_0_0_1_2_113 (ix3 r k e) q = ix3 r k 0 := fun q => by
      have hq : q = ⟨0, Nat.one_pos⟩ := Fin.ext (Nat.lt_one_iff.mp q.isLt)
      subst hq
      funext b
      refine Fin.ext ?_
      match b with
      | ⟨0, _⟩ => rfl
      | ⟨1, _⟩ => rfl
      | ⟨2, _⟩ => rfl
    rw [hsi, h, KernelIdeal.Hand.toInt_small _ (by omega)]
    show min j.val (512 - 1) = j.val
    omega
  | ⟨2, h2⟩ =>
    rw [GatherDims.batchCoord_eq_zero _ _ _ (show (2 : Fin 3) ∉ [(0 : Fin 3)] from by decide)]
    rw [show GatherDims.start gather_S16384x512x3_S16384x512x1_S16384x512x3_2_1_0_0_1_2_113 (ix3 r k e) S ⟨2, h2⟩ = 0 from
      dif_neg (show (2 : Fin 3) ∉ [(1 : Fin 3)] from by decide)]
    simp only [Nat.zero_add]
    rfl

theorem taken_apply (C : FVec Ideal S16384x512x3 .f32) (S : IVec S16384x512x1 32) (r : Fin 16384) (k : Fin 512) (j : Fin 512) (e : Fin 3)
    (h : S (ix3 r k 0) = BitVec.ofNat 32 j.val) : taken C S (ix3 r k e) = C (ix3 r j e) := by
  unfold taken
  pointwise
  rw [inside_apply S r k j h, gather_apply C S r k j e h]
  rfl

/-- The reference's result at one place: the columns of that row's coordinate, in the order of its distances. -/
theorem out_apply (a0 : FVec Ideal S16384x3 .f32) (a1 : FVec Ideal S512x3 .f32) (r : Fin 16384) (k : Fin 512) (e : Fin 3) :
    out a0 a1 (ix3 r k e) = KernelIdeal.Hand.sorted a1 (a0 (ix2 r 0)) (a0 (ix2 r 1)) (a0 (ix2 r 2)) e k := by
  have hd : (fun i : Fin 512 => (cols a0 a1 (ix3 r i 1) : EReal)) = KernelIdeal.Hand.dist a1 (a0 (ix2 r 1)) (a0 (ix2 r 2)) := by
    funext i
    rw [cols_apply]
    rfl
  unfold out KernelIdeal.Hand.sorted
  pointwise
  rw [taken_apply _ _ r k _ e (starts_apply _ r k _ (poss_apply _ r k)), cols_apply, hd]

end Cert.ReferenceIdeal.Hand
end
-- ==== Proof.PreRow.lean ====
module

public import proofs.«01_k».proof.Pre_same_coords
public import Idealize.ShloMosaic.PureOps.Ideal
public import Idealize.ShloMosaic.Lib.Pointwise
public import Idealize.ShloMosaic.Lib.ReduceAll

@[expose] public section

noncomputable section

/-! What the precondition says of the arrays: every coordinate is the first one. -/

namespace Cert.Pre_same_coords.Hand

open Cert.Pre_same_coords Cert.Pre_same_coords.Facts
open Idealize.ShloMosaic

variable [Cert.Pre_same_coords.Facts]

theorem rows_eq (a0 : FVec Ideal S16384x3 .f32) (a1 : FVec Ideal S512x3 .f32) (h : fn (F := Ideal) a0 a1 = fun _ => 1#1)
    (r : Fin 16384) (k : Fin 3) : a0 (ix2 r k) = a0 (ix2 0 k) := by
  have : Subsingleton S_.Idx := ⟨fun a b => funext fun i => i.elim0⟩
  unfold fn at h
  have hb : broadcastInDim S16384x3 ![0, 1] bcast_S1x3_S16384x3_0_1 (extractStridedSlice S1x3 ![0, 0] a0 slices_S16384x3_S1x3_0_0) (ix2 r k) = a0 (ix2 0 k) := by
    pointwise
  have e' : BitVec.ofBool (decide ((a0 (ix2 r k) : EReal) = a0 (ix2 0 k))) = 1#1 := by
    rw [← hb]
    exact Host.reduce_andi_all _ _ reducesTo_S16384x3_S_d0_1 h_S_ (fun i => i.elim0) (congrFun h (fun i => i.elim0)) (ix2 r k)
  by_contra hne
  rw [decide_eq_false hne] at e'
  exact absurd e' (by decide)

end Cert.Pre_same_coords.Hand
end
-- ==== Proof.Claims.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_same_coords
public import proofs.«01_k».proof.Proof.Launch
public import proofs.«01_k».proof.Proof.RefTable
public import proofs.«01_k».proof.Proof.PreRow
public import Idealize.ShloMosaic.Lib.Quiescent

@[expose] public section

noncomputable section

/-! The claims, each from the kernel's run, the reference's run and the two result values. -/

namespace Cert.Proof

open Idealize.ShloMosaic Idealize.SL.Sem

/-- The printed kernel and its ideal form have one text, so one table of bodies. -/
theorem bodies_eq : Cert.Kernel.defs₀ (F := Bits) = Cert.KernelIdeal.defs₀ (F := Bits) := by
  refine congrArg Defs.onTc ?_
  funext l x
  match l with
  | 0 =>
    obtain ⟨t, s⟩ := x
    rfl
  | ⟨n + 1, h⟩ => exact absurd h (Nat.not_lt.2 (Nat.le_add_left _ _))

theorem defs_eq : Cert.Kernel.defs (F := Bits) = Cert.KernelIdeal.defs (F := Bits) :=
  congrArg (Pipeline.defs Cert.KernelIdeal.pcfgs) bodies_eq

/-- The kernel's one run, read at the arguments and the semaphores; the machine's floats. -/
theorem frame_kernel : Cert.quiescent_Kernel (hKernel := Cert.Kernel.Gen.facts) := fun m ρ _ => by
  have h : θ_run (Cert.KernelIdeal.defs (F := Bits)) (onTc (τ := Cert.KernelIdeal.τ) (Cert.KernelIdeal.main (F := Bits))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
    (θ_run Cert.KernelIdeal.defs _ _).mono (fun _ h => ⟨fun c => (h.1 c).2, h.2⟩) (Cert.KernelIdeal.Hand.run_main (F := Bits) m ρ)
  rw [defs_eq]
  exact h

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Hand.run_main (F := Ideal) m ρ)

/-- The reference declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) _⟩)
    (Cert.ReferenceIdeal.Value.run (F := Ideal) m ρ)

/-- The two results agree at every place once every coordinate is the first one. -/
theorem results_eq (a0 : FVec Ideal Cert.ReferenceIdeal.S16384x3 .f32) (a1 : FVec Ideal Cert.ReferenceIdeal.S512x3 .f32)
    (h : ∀ (r : Fin 16384) (k : Fin 3), a0 (ix2 r k) = a0 (ix2 0 k)) :
    Cert.ReferenceIdeal.Hand.out a0 a1 = fun y => Cert.KernelIdeal.Hand.tbl (F := Ideal) (fun k => a0 (ix2 0 (k 1))) a1 (ix2 (y 2) (y 1)) := by
  have e : ∀ (r : Fin 16384) (k : Fin 512) (e : Fin 3), Cert.ReferenceIdeal.Hand.out a0 a1 (ix3 r k e)
      = Cert.KernelIdeal.Hand.tbl (F := Ideal) (fun k => a0 (ix2 0 (k 1))) a1 (ix2 e k) := fun r k e => by
    rw [Cert.ReferenceIdeal.Hand.out_apply, h r 0, h r 1, h r 2]
    exact (Cert.KernelIdeal.Hand.tbl_apply a1 (fun k => a0 (ix2 0 (k 1))) e k).symm
  funext y
  have hy : y = ix3 (y 0) (y 1) (y 2) := by
    funext a
    fin_cases a <;> rfl
  exact (congrArg _ hy).trans (e (y 0) (y 1) (y 2))

theorem algebraic : Cert.algebraic_KernelIdeal_ReferenceIdeal_pre_same_coords (hKernelIdeal := Cert.KernelIdeal.Gen.facts)
    (hReferenceIdeal := Cert.ReferenceIdeal.Gen.facts) (hPre_same_coords := Cert.Pre_same_coords.Gen.facts) := fun m g m' g' hpre hargs => by
  refine ⟨fun c => Cert.KernelIdeal.Hand.result (F := Ideal) m c,
    (θ_run Cert.KernelIdeal.defs _ _).mono (fun _ h => h.1) (Cert.KernelIdeal.Hand.run_main (F := Ideal) m g),
    (θ_run Cert.ReferenceIdeal.defs _ _).mono (fun r h c => ⟨(h c).1.trans ?_, (h c).2⟩) (Cert.ReferenceIdeal.Value.run (F := Ideal) m' g')⟩
  rw [Cert.ReferenceIdeal.Hand.res_eq]
  refine Eq.trans ?_ (results_eq _ _ (Cert.Pre_same_coords.Hand.rows_eq _ _ (hpre c)))
  exact congrArg₂ Cert.ReferenceIdeal.Hand.out (hargs c).1 (hargs c).2

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import proofs.«01_k».proof.Proof.Gen.Pre_same_coords
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_same_coords.Gen.facts,
  frame_kernel, frame_ideal, fun m g _ => frame_ideal m g trivial, frame_reference, fun m g _ => frame_reference m g trivial, trivial, algebraic⟩

end Cert.Proof

end
